-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_dropped_blocks_are_zero [hPre_dropped_blocks_are_zero : Cert.Pre_dropped_blocks_are_zero.Facts] (m : (ℓ : Loc Cert.KernelIdeal.nD Cert.KernelIdeal.τ Cert.KernelIdeal.sig) → Buf (Elt Ideal) ℓ) : Prop :=
  ∀ c : Dev Cert.KernelIdeal.nD,
    (Cert.Pre_dropped_blocks_are_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_dropped_blocks_are_zero [hPre_dropped_blocks_are_zero : Cert.Pre_dropped_blocks_are_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dropped_blocks_are_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_dropped_blocks_are_zero [hKernelIdeal : Cert.KernelIdeal.Facts] [hPre_dropped_blocks_are_zero : Cert.Pre_dropped_blocks_are_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_dropped_blocks_are_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_dropped_blocks_are_zero [hReferenceIdeal : Cert.ReferenceIdeal.Facts] [hPre_dropped_blocks_are_zero : Cert.Pre_dropped_blocks_are_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_dropped_blocks_are_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_dropped_blocks_are_zero [hKernelIdeal : Cert.KernelIdeal.Facts] [hReferenceIdeal : Cert.ReferenceIdeal.Facts] [hPre_dropped_blocks_are_zero : Cert.Pre_dropped_blocks_are_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_dropped_blocks_are_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_dropped_blocks_are_zero : Cert.Pre_dropped_blocks_are_zero.Facts),
    quiescent_Kernel (hKernel := hKernel)
    ∧ quiescent_KernelIdeal (hKernelIdeal := hKernelIdeal)
    ∧ quiescent_KernelIdeal_pre_dropped_blocks_are_zero (hKernelIdeal := hKernelIdeal) (hPre_dropped_blocks_are_zero := hPre_dropped_blocks_are_zero)
    ∧ quiescent_ReferenceIdeal (hReferenceIdeal := hReferenceIdeal)
    ∧ quiescent_ReferenceIdeal_pre_dropped_blocks_are_zero (hReferenceIdeal := hReferenceIdeal) (hPre_dropped_blocks_are_zero := hPre_dropped_blocks_are_zero)
    ∧ preserves_Kernel_KernelIdeal
    ∧ algebraic_KernelIdeal_ReferenceIdeal_pre_dropped_blocks_are_zero (hKernelIdeal := hKernelIdeal) (hReferenceIdeal := hReferenceIdeal) (hPre_dropped_blocks_are_zero := hPre_dropped_blocks_are_zero)
-- ==== Pre_dropped_blocks_are_zero.lean ====
abbrev S2048x4096 : Shape := ⟨2, ![2048, 4096]⟩
abbrev S4096x4096 : Shape := ⟨2, ![4096, 4096]⟩
abbrev S128x32x128x32 : Shape := ⟨4, ![128, 32, 128, 32]⟩
abbrev S128x128x32x32 : Shape := ⟨4, ![128, 128, 32, 32]⟩
abbrev S_ : Shape := ⟨0, ![]⟩
abbrev S128x128 : Shape := ⟨2, ![128, 128]⟩
abbrev S128x128x1x1 : Shape := ⟨4, ![128, 128, 1, 1]⟩

class Facts : Prop where
  shapeCasts_S4096x4096_S128x32x128x32 : S4096x4096.ShapeCasts S128x32x128x32
  transposes_S128x32x128x32_S128x128x32x32_0_2_1_3 : S128x32x128x32.Transposes [0, 2, 1, 3] S128x128x32x32
  reducesTo_S128x128x32x32_S128x128_d2_3 : S128x128x32x32.ReducesTo [2, 3] S128x128
  h_S_ : 0 < S_.numel
  bcast_S128x128_S128x128x1x1_0_1 : S128x128.BroadcastsInDim S128x128x1x1 (![0, 1] : Fin 2 → Fin S128x128x1x1.rank)
  bcast_S_S128x128x1x1 : S_.BroadcastsInDim S128x128x1x1 (![] : Fin 0 → Fin S128x128x1x1.rank)
  bcast_S_S128x128x32x32 : S_.BroadcastsInDim S128x128x32x32 (![] : Fin 0 → Fin S128x128x32x32.rank)
  bcast_S128x128x1x1_S128x128x32x32_0_1_2_3 : S128x128x1x1.BroadcastsInDim S128x128x32x32 (![0, 1, 2, 3] : Fin 4 → Fin S128x128x32x32.rank)

variable [Facts]

def fn {F : FTy → Type} [FloatOps F] (main_arg0 : FVec F S2048x4096 .f32) (main_arg1 : FVec F S4096x4096 .f32) : IVec S128x128x32x32 1 :=
  let main_v0 : FVec F S128x32x128x32 .f32 := shapeCast S128x32x128x32 main_arg1 shapeCasts_S4096x4096_S128x32x128x32
  let main_v1 : FVec F S128x128x32x32 .f32 := (transpose S128x128x32x32 [0, 2, 1, 3] · transposes_S128x32x128x32_S128x128x32x32_0_2_1_3) main_v0
  let main_cst : FVec F S_ .f32 := constant S_ .f32 0x00000000#32
  let main_v2 : FVec F S128x128 .f32 := (fun x v => Host.reduceAdd x v reducesTo_S128x128x32x32_S128x128_d2_3 h_S_) main_v1 main_cst
  let main_v3 : FVec F S128x128x1x1 .f32 := broadcastInDim S128x128x1x1 ![0, 1] bcast_S128x128_S128x128x1x1_0_1 main_v2
  let main_cst_0 : FVec F S_ .f32 := constant S_ .f32 0x00000000#32
  let main_v4 : FVec F S128x128x1x1 .f32 := broadcastInDim S128x128x1x1 ![] bcast_S_S128x128x1x1 main_cst_0
  let main_v5 : IVec S128x128x1x1 1 := cmpf .une main_v3 main_v4
  let main_cst_1 : FVec F S_ .f32 := constant S_ .f32 0x00000000#32
  let main_v6 : FVec F S128x128x32x32 .f32 := broadcastInDim S128x128x32x32 ![] bcast_S_S128x128x32x32 main_cst_1
  let main_v7 : IVec S128x128x32x32 1 := cmpf .oeq main_v1 main_v6
  let main_v8 : IVec S128x128x32x32 1 := broadcastInDim S128x128x32x32 ![0, 1, 2, 3] bcast_S128x128x1x1_S128x128x32x32_0_1_2_3 main_v5
  let main_v9 : IVec S128x128x32x32 1 := ori main_v8 main_v7
  main_v9
-- ==== Kernel.lean ====
abbrev S2048x4096 : Shape := ⟨2, ![2048, 4096]⟩
abbrev S4096x4096 : Shape := ⟨2, ![4096, 4096]⟩
abbrev S2048x512 : Shape := ⟨2, ![2048, 512]⟩
abbrev S512x4096 : Shape := ⟨2, ![512, 4096]⟩

abbrev nBuf : Space → Nat
  | .hbm => 3
  | .vmem => 5
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S2048x4096, .f32⟩
  | .local _ .vmem, ⟨0, _⟩ => ⟨S2048x512, .f32⟩
  | .local _ .vmem, ⟨1, _⟩ => ⟨S2048x512, .f32⟩
  | .local _ .vmem, ⟨2, _⟩ => ⟨S512x4096, .f32⟩
  | .local _ .vmem, ⟨3, _⟩ => ⟨S512x4096, .f32⟩
  | .local _ .vmem, ⟨4, _⟩ => ⟨S2048x4096, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S2048x4096 : Shape := ⟨2, ![2048, 4096]⟩
abbrev S4096x4096 : Shape := ⟨2, ![4096, 4096]⟩
abbrev S128x32x128x32 : Shape := ⟨4, ![128, 32, 128, 32]⟩
abbrev S128x128x32x32 : Shape := ⟨4, ![128, 128, 32, 32]⟩
abbrev S_ : Shape := ⟨0, ![]⟩
abbrev S128x128 : Shape := ⟨2, ![128, 128]⟩
abbrev S128x128x1x1 : Shape := ⟨4, ![128, 128, 1, 1]⟩

abbrev nBuf : Space → Nat
  | .hbm => 16
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S128x32x128x32, .f32⟩
  | .hbm, ⟨3, _⟩ => ⟨S128x128x32x32, .f32⟩
  | .hbm, ⟨4, _⟩ => ⟨S_, .f32⟩
  | .hbm, ⟨5, _⟩ => ⟨S128x128, .f32⟩
  | .hbm, ⟨6, _⟩ => ⟨S_, .f32⟩
  | .hbm, ⟨7, _⟩ => ⟨S128x128, .f32⟩
  | .hbm, ⟨8, _⟩ => ⟨S128x128, .i1⟩
  | .hbm, ⟨9, _⟩ => ⟨S128x128, .f32⟩
  | .hbm, ⟨10, _⟩ => ⟨S128x128x1x1, .f32⟩
  | .hbm, ⟨11, _⟩ => ⟨S128x128x32x32, .f32⟩
  | .hbm, ⟨12, _⟩ => ⟨S128x128x32x32, .f32⟩
  | .hbm, ⟨13, _⟩ => ⟨S128x32x128x32, .f32⟩
  | .hbm, ⟨14, _⟩ => ⟨S4096x4096, .f32⟩
  | .hbm, ⟨15, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Proof.Product.lean ====
/- The mathematics both programs are compared with: the product of a 2048 by 4096 array and a 4096 by 4096 array of
   extended reals, and the same sum cut into the eight runs of 512 terms the kernel adds one after the other. -/
module

public import Idealize.ShloMosaic.Lib.Pointwise.Sums
public import Idealize.ShloMosaic.PureOps.Ideal.Laws

@[expose] public section

noncomputable section

namespace Cert.Product

open Idealize.ShloMosaic

/-- Entry `(r, q)` of the matrix product: the sum over `k` of `A (r, k) * B (k, q)`. -/
def prod (A : (⟨2, ![2048, 4096]⟩ : Shape).Idx → EReal) (B : (⟨2, ![4096, 4096]⟩ : Shape).Idx → EReal)
    (r : Fin 2048) (q : Fin 4096) : EReal :=
  ∑ k : Fin 4096, A (ix2 r k) * B (ix2 k q)

/-- The contraction coordinate number `t` of slab `n`; the remainder only makes it total in `n`, and changes nothing for
    the eight slabs there are. -/
def coord (n : ℕ) (t : Fin 512) : Fin 4096 := ⟨(n * 512 + t.val) % 4096, Nat.mod_lt _ (by omega)⟩

/-- What slab `n` of 512 contraction coordinates contributes to entry `(r, q)`. -/
def slab (A : (⟨2, ![2048, 4096]⟩ : Shape).Idx → EReal) (B : (⟨2, ![4096, 4096]⟩ : Shape).Idx → EReal)
    (r : Fin 2048) (q : Fin 4096) (n : ℕ) : EReal :=
  ∑ t : Fin 512, A (ix2 r (coord n t)) * B (ix2 (coord n t) q)

/-- The eight slabs together are the whole product: every contraction coordinate lies in exactly one of them. -/
theorem sum_slab (A : (⟨2, ![2048, 4096]⟩ : Shape).Idx → EReal) (B : (⟨2, ![4096, 4096]⟩ : Shape).Idx → EReal)
    (r : Fin 2048) (q : Fin 4096) : ∑ n ∈ Finset.range 8, slab A B r q n = prod A B r q := by
  unfold prod
  rw [Finset.sum_range, Fin.sum_univ_tiles (N := 4096) 8 512 (by norm_num)]
  refine Finset.sum_congr rfl fun j _ => Finset.sum_congr rfl fun t _ => ?_
  have e : coord j.val t = ⟨j.val * 512 + t.val, by omega⟩ := Fin.ext (Nat.mod_eq_of_lt (by omega))
  rw [e]

end Cert.Product

end
-- ==== Proof.KernelBlock.lean ====
/- What one grid point of the kernel reads and adds. Point `n` reads the 512 columns of the first array and the 512 rows
   of the second whose numbers start at `512 * n`, and adds their product to the accumulator. -/
module

public import proofs.«01_k».proof.Proof.Gen.KernelIdeal.Value
public import proofs.«01_k».proof.Proof.Product
public import Idealize.ShloMosaic.Lib.MatmulPlain

@[expose] public section

set_option maxRecDepth 16384

noncomputable section

namespace Cert.KernelBlock

open Cert.KernelIdeal Cert.KernelIdeal.Gen Idealize.ShloMosaic Idealize.ShloMosaic.TcCoe Idealize.SL.Sem

/-- The index maps of the two inputs: point `t` takes block `(0, t)` of the first array and `(t, 0)` of the second. -/
theorem index_facts : ∀ t : Fin cfg0.N, t.val < 8
    ∧ win0_0.index t (0 : Fin 2) = 0 ∧ win0_0.index t (1 : Fin 2) = t.val
    ∧ win0_1.index t (0 : Fin 2) = t.val ∧ win0_1.index t (1 : Fin 2) = 0 :=
  (by decide +kernel : ∀ t : Fin grid0.N, _)

variable (m : (ℓ : Loc nD τ sig) → Buf (Elt Ideal) ℓ)

/-- Entry `(r, t)` of the first input's block at point `n` is the array's entry in row `r` and column `512 * n + t`. -/
theorem left_block (c : Dev nD) (n : Fin cfg0.N) (r : Fin 2048) (t : Fin 512) :
    (iblk m c 0 n : S2048x512.Idx → EReal) (ix2 r t)
      = (m ((c : Thread nD τ).loc main_arg0) : S2048x4096.Idx → EReal) (ix2 r (Product.coord n.val t)) := by
  obtain ⟨h8, e0, e1, -, -⟩ := index_facts n
  unfold iblk
  show (m ((c : Thread nD τ).loc main_arg0) : S2048x4096.Idx → EReal) (((cfg0.win 0).blk n).view.emb (ix2 r t)) = _
  refine congrArg _ (funext fun a => Fin.ext ?_)
  match a with
  | ⟨0, _⟩ =>
    show win0_0.index n (0 : Fin 2) * 2048 + 1 * r.val = r.val
    omega
  | ⟨1, _⟩ =>
    show win0_0.index n (1 : Fin 2) * 512 + 1 * t.val = (n.val * 512 + t.val) % 4096
    omega

/-- Entry `(t, q)` of the second input's block at point `n` is the array's entry in row `512 * n + t` and column `q`. -/
theorem right_block (c : Dev nD) (n : Fin cfg0.N) (t : Fin 512) (q : Fin 4096) :
    (iblk m c 1 n : S512x4096.Idx → EReal) (ix2 t q)
      = (m ((c : Thread nD τ).loc main_arg1) : S4096x4096.Idx → EReal) (ix2 (Product.coord n.val t) q) := by
  obtain ⟨h8, -, -, e0, e1⟩ := index_facts n
  unfold iblk
  show (m ((c : Thread nD τ).loc main_arg1) : S4096x4096.Idx → EReal) (((cfg0.win 1).blk n).view.emb (ix2 t q)) = _
  refine congrArg _ (funext fun a => Fin.ext ?_)
  match a with
  | ⟨0, _⟩ =>
    show win0_1.index n (0 : Fin 2) * 512 + 1 * t.val = (n.val * 512 + t.val) % 4096
    omega
  | ⟨1, _⟩ =>
    show win0_1.index n (1 : Fin 2) * 4096 + 1 * q.val = q.val
    omega

/-- The accumulator starts at zero everywhere. -/
theorem start_apply (i : S2048x4096.Idx) : (k0_pay1 (F := Ideal)) i = 0 := by
  show Ideal.ofBits .f32 0x00000000#32 = 0
  exact Ideal.ofBits_zero_f32

/-- One grid point's arithmetic, for any accumulator and any two blocks: each entry gains the sum of 512 products. -/
theorem add_apply (acc : FVec Ideal S2048x4096 .f32) (a : FVec Ideal S2048x512 .f32) (b : FVec Ideal S512x4096 .f32)
    (r : Fin 2048) (q : Fin 4096) :
    k0_pay2 (F := Ideal) acc a b (ix2 r q) = acc (ix2 r q) + ∑ t : Fin 512, a (ix2 r t) * b (ix2 t q) := by
  have e : FloatOps.matmul (F := Ideal) dot_S2048x512_S512x4096_S2048x4096_1_0_0_1_n_n none a b
      (constant S2048x4096 .f32 0x00000000#32) (ix2 r q) = ∑ t : Fin 512, a (ix2 r t) * b (ix2 t q) := by
    refine (Ideal.matmul_plain_apply none a b (constant S2048x4096 .f32 0x00000000#32) r q).trans ?_
    show Ideal.ofBits .f32 0x00000000#32 + _ = _
    rw [Ideal.ofBits_zero_f32, zero_add]
    rfl
  show (shapeCast S2048x4096 acc shapeCasts_S2048x4096_S2048x4096) (ix2 r q) + _ = _
  rw [shapeCast_self]
  exact congrArg (acc (ix2 r q) + ·) e

/-- What point `n` adds to entry `(r, q)` of the accumulator is slab `n` of the product of the two arrays. -/
theorem step_apply (c : Dev nD) (n : ℕ) (h : n < cfg0.N) (acc : FVec Ideal S2048x4096 .f32) (r : Fin 2048) (q : Fin 4096) :
    k0_pay2 (F := Ideal) acc (iblk m c 0 ⟨n, h⟩) (iblk m c 1 ⟨n, h⟩) (ix2 r q)
      = acc (ix2 r q) + Product.slab (m ((c : Thread nD τ).loc main_arg0)) (m ((c : Thread nD τ).loc main_arg1)) r q n := by
  refine (add_apply acc _ _ r q).trans (congrArg (acc (ix2 r q) + ·) (Finset.sum_congr rfl fun t _ => ?_))
  exact congrArg₂ (· * ·) (left_block m c ⟨n, h⟩ r t) (right_block m c ⟨n, h⟩ t q)

end Cert.KernelBlock

end
-- ==== Proof.KernelArray.lean ====
/- What the kernel's result array holds after the run: the product of the two argument arrays. -/
module

public import proofs.«01_k».proof.Proof.KernelBlock

@[expose] public section

set_option maxRecDepth 16384

noncomputable section

namespace Cert.KernelArray

open Cert.KernelIdeal Cert.KernelIdeal.Gen Idealize.ShloMosaic Idealize.ShloMosaic.TcCoe Idealize.SL.Sem

variable (m : (ℓ : Loc nD τ sig) → Buf (Elt Ideal) ℓ)

/-- After points `0` to `j`, the accumulator holds the sum of the first `j + 1` slabs of the product. -/
theorem fold_apply (c : Dev nD) (j : ℕ) (hj : j ≤ 7) (h : 0 + j < cfg0.N) (i : S2048x4096.Idx) :
    Pipeline.accAt (Value.reset2 m c) (Value.step2 m c) 0 j h i
      = 0 + ∑ n ∈ Finset.range (j + 1),
          Product.slab (m ((c : Thread nD τ).loc main_arg0)) (m ((c : Thread nD τ).loc main_arg1)) (i 0) (i 1) (0 + n) := by
  refine Pipeline.accAt_add_apply (Value.reset2 m c) (Value.step2 m c) (fun _ => (0 : EReal))
    (fun n i => Product.slab (m ((c : Thread nD τ).loc main_arg0)) (m ((c : Thread nD τ).loc main_arg1)) (i 0) (i 1) n)
    0 7 ?_ ?_ j hj h i
  · intro h i
    rw [eq_ix2 i]
    refine (KernelBlock.step_apply m c 0 h _ (i 0) (i 1)).trans ?_
    rw [KernelBlock.start_apply]
    rfl
  · intro n h acc i _ _
    rw [eq_ix2 i]
    exact KernelBlock.step_apply m c n h acc (i 0) (i 1)

/-- Entry `i` of the kernel's result is entry `i` of the product of its two arguments. -/
theorem result_apply (c : Dev nD) (i : S2048x4096.Idx) :
    (Value.G2 m c : S2048x4096.Idx → EReal) i
      = Product.prod (m ((c : Thread nD τ).loc main_arg0)) (m ((c : Thread nD τ).loc main_arg1)) (i 0) (i 1) := by
  have h0 : (i 0).val < 2048 := (i 0).isLt
  have h1 : (i 1).val < 4096 := (i 1).isLt
  have hN : cfg0.N = 8 := N_0
  have hb : 8 * Value.run2Of i = 0 := by
    show 8 * (1 * ((i 0).val / 2048 - 0) + 1 * ((i 1).val / 4096 - 0)) = 0
    omega
  have hl : Value.loc2Of i = i := by
    funext a
    apply Fin.ext
    match a with
    | ⟨0, _⟩ => exact Nat.mod_eq_of_lt h0
    | ⟨1, _⟩ => exact Nat.mod_eq_of_lt h1
  have same : ∀ (b b' : ℕ) (h : b + 7 < cfg0.N) (h' : b' + 7 < cfg0.N), b = b' →
      Pipeline.accAt (Value.reset2 m c) (Value.step2 m c) b 7 h = Pipeline.accAt (Value.reset2 m c) (Value.step2 m c) b' 7 h' := by
    intro b b' h h' e
    subst e
    rfl
  unfold Value.G2
  rw [dif_pos (show 8 * Value.run2Of i + 7 < cfg0.N by omega), hl, same _ 0 _ (by omega) hb, fold_apply m c 7 le_rfl]
  simp only [Nat.zero_add, zero_add]
  exact Product.sum_slab _ _ _ _

end Cert.KernelArray

end
-- ==== Proof.Reference.lean ====
/- What the reference computes when every block whose entries sum to zero is a block of zeros: masking the second array
   changes nothing, and the result is the product of the two arrays. -/
module

public import proofs.«01_k».proof.Proof.Gen.ReferenceIdeal.Read
public import proofs.«01_k».proof.Proof.Gen.Pre_dropped_blocks_are_zero
public import proofs.«01_k».proof.Proof.Product

@[expose] public section

set_option maxRecDepth 16384

noncomputable section

namespace Cert.Reference

open Cert.ReferenceIdeal Cert.ReferenceIdeal.Gen Cert.ReferenceIdeal.Read Idealize.ShloMosaic

/-- The block row and block column of a blocked index: where that block's sum is kept. -/
abbrev blockOf (j : S128x128x32x32.Idx) : S128x128.Idx := idx_main_v6 (idx_main_v7 j)

/-- A two-valued word that is the `or` of "`x` is not zero" and "`y` is zero" is 1 only if one of the two holds. -/
theorem or_word (x y : EReal) (h : Ideal.cmp .une x 0 ||| Ideal.cmp .oeq y 0 = 1#1) : x ≠ 0 ∨ y = 0 := by
  by_contra hn
  rw [not_or, not_not] at hn
  simp [Ideal.cmp, hn.1, hn.2] at h

/-- The precondition's word at a blocked index, with the same blocks and the same block sums the reference forms. -/
theorem pre_apply (x0 : S2048x4096.Idx → EReal) (x1 : S4096x4096.Idx → EReal) (j : S128x128x32x32.Idx) :
    Cert.Pre_dropped_blocks_are_zero.fn (F := Ideal) x0 x1 j
      = Ideal.cmp .une (val_main_v2 (F := Ideal) x1 (blockOf j)) 0 ||| Ideal.cmp .oeq (val_main_v1 (F := Ideal) x1 j) 0 := by
  have sums : ∀ k : S128x128x1x1.Idx,
      broadcastInDim S128x128x1x1 ![0, 1] bcast_S128x128_S128x128x1x1_0_1 (val_main_v2 (F := Ideal) x1) k
        = val_main_v2 (F := Ideal) x1 (idx_main_v6 k) := by
    intro k
    generalize val_main_v2 (F := Ideal) x1 = y
    exact broadcastInDim_apply _ bcast_S128x128_S128x128x1x1_0_1 y k (idx_main_v6 k) (fun a => match a with
      | ⟨0, _⟩ => rfl
      | ⟨1, _⟩ => rfl)
  have spread : ∀ (w : IVec S128x128x1x1 1),
      broadcastInDim S128x128x32x32 ![0, 1, 2, 3] bcast_S128x128x1x1_S128x128x32x32_0_1_2_3 w j = w (idx_main_v7 j) :=
    fun w => broadcastInDim_apply _ bcast_S128x128x1x1_S128x128x32x32_0_1_2_3 w j (idx_main_v7 j) (fun a => match a with
      | ⟨0, _⟩ => rfl
      | ⟨1, _⟩ => rfl
      | ⟨2, _⟩ => rfl
      | ⟨3, _⟩ => rfl)
  refine (congrArg (· ||| _) (spread _)).trans ?_
  show Ideal.cmp .une (broadcastInDim S128x128x1x1 ![0, 1] bcast_S128x128_S128x128x1x1_0_1 (val_main_v2 (F := Ideal) x1) (idx_main_v7 j))
      (Ideal.ofBits .f32 0x00000000#32)
    ||| Ideal.cmp .oeq (val_main_v1 (F := Ideal) x1 j) (Ideal.ofBits .f32 0x00000000#32) = _
  rw [sums, Ideal.ofBits_zero_f32]

/-- The precondition, entry by entry: a block's sum is not zero, or the entry itself is. -/
theorem zero_of_pre (x0 : S2048x4096.Idx → EReal) (x1 : S4096x4096.Idx → EReal)
    (h : Cert.Pre_dropped_blocks_are_zero.fn (F := Ideal) x0 x1 = fun _ => 1#1) (j : S128x128x32x32.Idx) :
    val_main_v2 (F := Ideal) x1 (blockOf j) ≠ 0 ∨ val_main_v1 (F := Ideal) x1 j = 0 :=
  or_word _ _ ((pre_apply x0 x1 j).symm.trans (congrFun h j))

/-- The mask of a block as a number: one where the block's sum is not zero, zero where it is. -/
theorem mask_apply (x1 : S4096x4096.Idx → EReal) (j : S128x128x32x32.Idx) :
    val_main_v7 (F := Ideal) x1 j = if val_main_v2 (F := Ideal) x1 (blockOf j) = 0 then 0 else 1 := by
  rw [val_main_v7_apply, val_main_v6_apply, val_main_v5_apply, val_main_v4_apply, val_main_v3_apply, val_main_cst_0_apply]
  show (((Ideal.cmp .une (val_main_v2 (F := Ideal) x1 (blockOf j)) (Ideal.ofBits .f32 0x00000000#32)).toNat : ℝ) : EReal) = _
  rw [Ideal.ofBits_zero_f32]
  by_cases hs : val_main_v2 (F := Ideal) x1 (blockOf j) = 0
  · simp [Ideal.cmp, hs]
  · simp [Ideal.cmp, hs]

/-- Under the precondition the masked blocks are the blocks. -/
theorem masked_apply (x0 : S2048x4096.Idx → EReal) (x1 : S4096x4096.Idx → EReal)
    (h : Cert.Pre_dropped_blocks_are_zero.fn (F := Ideal) x0 x1 = fun _ => 1#1) (j : S128x128x32x32.Idx) :
    val_main_v8 (F := Ideal) x1 j = val_main_v1 (F := Ideal) x1 j := by
  rw [val_main_v8_apply, mask_apply]
  show val_main_v1 (F := Ideal) x1 j * _ = _
  by_cases hs : val_main_v2 (F := Ideal) x1 (blockOf j) = 0
  · rw [if_pos hs, mul_zero, (zero_of_pre x0 x1 h j).resolve_left (not_not.mpr hs)]
  · rw [if_neg hs, mul_one]

/-- Cutting a 4096 by 4096 array into blocks and laying the blocks out again comes back to the same place. -/
theorem round_trip (i : S4096x4096.Idx) :
    idx_main_v0 (idx_main_v1 (idx_main_v9 (idx_main_v10 i))) = i := by
  have h0 : (i 0).val < 4096 := (i 0).isLt
  have h1 : (i 1).val < 4096 := (i 1).isLt
  funext a
  apply Fin.ext
  match a with
  | ⟨0, _⟩ =>
    show (((((i 0).val * 4096 + (i 1).val) / 131072 * 32 + ((i 0).val * 4096 + (i 1).val) / 4096 % 32) * 128
      + ((i 0).val * 4096 + (i 1).val) / 32 % 128) * 32 + ((i 0).val * 4096 + (i 1).val) % 32) / 4096 = (i 0).val
    omega
  | ⟨1, _⟩ =>
    show (((((i 0).val * 4096 + (i 1).val) / 131072 * 32 + ((i 0).val * 4096 + (i 1).val) / 4096 % 32) * 128
      + ((i 0).val * 4096 + (i 1).val) / 32 % 128) * 32 + ((i 0).val * 4096 + (i 1).val) % 32) % 4096 = (i 1).val
    omega

/-- Under the precondition the array the reference multiplies by is its second argument, unchanged. -/
theorem operand_apply (x0 : S2048x4096.Idx → EReal) (x1 : S4096x4096.Idx → EReal)
    (h : Cert.Pre_dropped_blocks_are_zero.fn (F := Ideal) x0 x1 = fun _ => 1#1) (i : S4096x4096.Idx) :
    val_main_v10 (F := Ideal) x1 i = x1 i := by
  rw [val_main_v10_apply, val_main_v9_apply, masked_apply x0 x1 h, val_main_v1_apply, val_main_v0_apply, round_trip]

/-- Under the precondition entry `i` of the reference's result is entry `i` of the product of its two arguments. -/
theorem result_apply (x0 : S2048x4096.Idx → EReal) (x1 : S4096x4096.Idx → EReal)
    (h : Cert.Pre_dropped_blocks_are_zero.fn (F := Ideal) x0 x1 = fun _ => 1#1) (i : S2048x4096.Idx) :
    val_main_v11 (F := Ideal) x0 x1 i = Product.prod x0 x1 (i 0) (i 1) := by
  rw [val_main_v11_apply]
  refine Finset.sum_congr rfl fun k _ => ?_
  rw [operand_apply x0 x1 h]
  have el : lidx_main_v11 i k = ix2 (i 0) k := by
    funext a
    match a with
    | ⟨0, _⟩ => rfl
    | ⟨1, _⟩ => rfl
  have er : ridx_main_v11 i k = ix2 k (i 1) := by
    funext a
    match a with
    | ⟨0, _⟩ => rfl
    | ⟨1, _⟩ => rfl
  rw [el, er]
  rfl

end Cert.Reference

end
-- ==== Proof.lean ====
module

public import proofs.«01_k».proof.Defs
public import proofs.«01_k».proof.Proof.Gen.Kernel.Frame
public import proofs.«01_k».proof.Proof.Gen.KernelIdeal.Value
public import proofs.«01_k».proof.Proof.Gen.Pre_dropped_blocks_are_zero
public import proofs.«01_k».proof.Proof.Gen.ReferenceIdeal.Run
public import proofs.«01_k».proof.Proof.Gen.ReferenceIdeal.Read
public import proofs.«01_k».proof.Proof.KernelArray
public import proofs.«01_k».proof.Proof.Reference
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem

/-- The reference runs, keeps its arguments and leaves every counter at zero. -/
theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same on the memories the precondition admits. -/
theorem reference_frame_pre : quiescent_ReferenceIdeal_pre_dropped_blocks_are_zero := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories agreeing on arguments the precondition admits, kernel and reference end with the same result array. -/
theorem same_result : algebraic_KernelIdeal_ReferenceIdeal_pre_dropped_blocks_are_zero := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  refine (Cert.ReferenceIdeal.Read.val_main_v11_eq (F := Ideal) _ _).trans (funext fun i => ?_)
  exact (Cert.Reference.result_apply _ _ (hpre c) i).trans (Cert.KernelArray.result_apply m c i).symm

/-- Every claim of the certificate. -/
theorem claim : Cert.Claim :=
  ⟨Cert.Kernel.Gen.facts, Cert.KernelIdeal.Gen.facts, Cert.ReferenceIdeal.Gen.facts, Cert.Pre_dropped_blocks_are_zero.Gen.facts,
    fun m ρ _ => Cert.Kernel.Gen.frame m ρ, fun m ρ _ => Cert.KernelIdeal.Gen.frame m ρ,
    fun m ρ _ => Cert.KernelIdeal.Gen.frame m ρ, reference_frame, reference_frame_pre,
    (trivial : preserves_Kernel_KernelIdeal), same_result⟩

end Cert.Proof

end
